-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S14x6x10x1024 : Shape := ⟨4, ![14, 6, 10, 1024]⟩
abbrev S_ : Shape := ⟨0, ![]⟩
abbrev S1024x512x4x4 : Shape := ⟨4, ![1024, 512, 4, 4]⟩
abbrev S512 : Shape := ⟨1, ![512]⟩
abbrev S6x10x14x1024 : Shape := ⟨4, ![6, 10, 14, 1024]⟩
abbrev S8x12x16x1024 : Shape := ⟨4, ![8, 12, 16, 1024]⟩
abbrev S1024x512x1x1 : Shape := ⟨4, ![1024, 512, 1, 1]⟩
abbrev S1024x512 : Shape := ⟨2, ![1024, 512]⟩
abbrev S1x1024x512 : Shape := ⟨3, ![1, 1024, 512]⟩
abbrev S16x1024x512 : Shape := ⟨3, ![16, 1024, 512]⟩
abbrev S4x4096x512 : Shape := ⟨3, ![4, 4096, 512]⟩
abbrev S1x512 : Shape := ⟨2, ![1, 512]⟩
abbrev S4x960x512 : Shape := ⟨3, ![4, 960, 512]⟩
abbrev S1x4096x512 : Shape := ⟨3, ![1, 4096, 512]⟩
abbrev S1x960x512 : Shape := ⟨3, ![1, 960, 512]⟩
abbrev S960x4096 : Shape := ⟨2, ![960, 4096]⟩
abbrev S6x10x16x1024 : Shape := ⟨4, ![6, 10, 16, 1024]⟩
abbrev S960x1024 : Shape := ⟨2, ![960, 1024]⟩
abbrev S4096x512 : Shape := ⟨2, ![4096, 512]⟩
abbrev S960x512 : Shape := ⟨2, ![960, 512]⟩
abbrev S2x2x6x10x16x512 : Shape := ⟨6, ![2, 2, 6, 10, 16, 512]⟩
abbrev S2x2x6x10x14x512 : Shape := ⟨6, ![2, 2, 6, 10, 14, 512]⟩
abbrev S14x6x2x10x2x512 : Shape := ⟨6, ![14, 6, 2, 10, 2, 512]⟩
abbrev S14x12x20x512 : Shape := ⟨4, ![14, 12, 20, 512]⟩

abbrev nBuf : Space → Nat
  | .hbm => 68
  | .vmem => 8
  | .smem => 0
  | _ => 0

abbrev bufTy : (tb : Table) → Fin (tcTables nBuf tb) → BufTy
  | .hbm, ⟨0, _⟩ => ⟨S14x6x10x1024, .fp8e4m3⟩
  | .hbm, ⟨1, _⟩ => ⟨S_, .f32⟩
  | .hbm, ⟨2, _⟩ => ⟨S1024x512x4x4, .fp8e4m3⟩
  | .hbm, ⟨3, _⟩ => ⟨S512, .f32⟩
  | .hbm, ⟨4, _⟩ => ⟨S512, .f32⟩
  | .hbm, ⟨5, _⟩ => ⟨S6x10x14x1024, .fp8e4m3⟩
  | .hbm, ⟨6, _⟩ => ⟨S_, .i8⟩
  | .hbm, ⟨7, _⟩ => ⟨S_, .fp8e4m3⟩
  | .hbm, ⟨8, _⟩ => ⟨S8x12x16x1024, .fp8e4m3⟩
  | .hbm, ⟨9, _⟩ => ⟨S1024x512x1x1, .fp8e4m3⟩
  | .hbm, ⟨10, _⟩ => ⟨S1024x512, .fp8e4m3⟩
  | .hbm, ⟨11, _⟩ => ⟨S1024x512x1x1, .fp8e4m3⟩
  | .hbm, ⟨12, _⟩ => ⟨S1024x512, .fp8e4m3⟩
  | .hbm, ⟨13, _⟩ => ⟨S1024x512x1x1, .fp8e4m3⟩
  | .hbm, ⟨14, _⟩ => ⟨S1024x512, .fp8e4m3⟩
  | .hbm, ⟨15, _⟩ => ⟨S1024x512x1x1, .fp8e4m3⟩
  | .hbm, ⟨16, _⟩ => ⟨S1024x512, .fp8e4m3⟩
  | .hbm, ⟨17, _⟩ => ⟨S1024x512x1x1, .fp8e4m3⟩
  | .hbm, ⟨18, _⟩ => ⟨S1024x512, .fp8e4m3⟩
  | .hbm, ⟨19, _⟩ => ⟨S1024x512x1x1, .fp8e4m3⟩
  | .hbm, ⟨20, _⟩ => ⟨S1024x512, .fp8e4m3⟩
  | .hbm, ⟨21, _⟩ => ⟨S1024x512x1x1, .fp8e4m3⟩
  | .hbm, ⟨22, _⟩ => ⟨S1024x512, .fp8e4m3⟩
  | .hbm, ⟨23, _⟩ => ⟨S1024x512x1x1, .fp8e4m3⟩
  | .hbm, ⟨24, _⟩ => ⟨S1024x512, .fp8e4m3⟩
  | .hbm, ⟨25, _⟩ => ⟨S1024x512x1x1, .fp8e4m3⟩
  | .hbm, ⟨26, _⟩ => ⟨S1024x512, .fp8e4m3⟩
  | .hbm, ⟨27, _⟩ => ⟨S1024x512x1x1, .fp8e4m3⟩
  | .hbm, ⟨28, _⟩ => ⟨S1024x512, .fp8e4m3⟩
  | .hbm, ⟨29, _⟩ => ⟨S1024x512x1x1, .fp8e4m3⟩
  | .hbm, ⟨30, _⟩ => ⟨S1024x512, .fp8e4m3⟩
  | .hbm, ⟨31, _⟩ => ⟨S1024x512x1x1, .fp8e4m3⟩
  | .hbm, ⟨32, _⟩ => ⟨S1024x512, .fp8e4m3⟩
  | .hbm, ⟨33, _⟩ => ⟨S1024x512x1x1, .fp8e4m3⟩
  | .hbm, ⟨34, _⟩ => ⟨S1024x512, .fp8e4m3⟩
  | .hbm, ⟨35, _⟩ => ⟨S1024x512x1x1, .fp8e4m3⟩
  | .hbm, ⟨36, _⟩ => ⟨S1024x512, .fp8e4m3⟩
  | .hbm, ⟨37, _⟩ => ⟨S1024x512x1x1, .fp8e4m3⟩
  | .hbm, ⟨38, _⟩ => ⟨S1024x512, .fp8e4m3⟩
  | .hbm, ⟨39, _⟩ => ⟨S1024x512x1x1, .fp8e4m3⟩
  | .hbm, ⟨40, _⟩ => ⟨S1024x512, .fp8e4m3⟩
  | .hbm, ⟨41, _⟩ => ⟨S1x1024x512, .fp8e4m3⟩
  | .hbm, ⟨42, _⟩ => ⟨S1x1024x512, .fp8e4m3⟩
  | .hbm, ⟨43, _⟩ => ⟨S1x1024x512, .fp8e4m3⟩
  | .hbm, ⟨44, _⟩ => ⟨S1x1024x512, .fp8e4m3⟩
  | .hbm, ⟨45, _⟩ => ⟨S1x1024x512, .fp8e4m3⟩
  | .hbm, ⟨46, _⟩ => ⟨S1x1024x512, .fp8e4m3⟩
  | .hbm, ⟨47, _⟩ => ⟨S1x1024x512, .fp8e4m3⟩
  | .hbm, ⟨48, _⟩ => ⟨S1x1024x512, .fp8e4m3⟩
  | .hbm, ⟨49, _⟩ => ⟨S1x1024x512, .fp8e4m3⟩
  | .hbm, ⟨50, _⟩ => ⟨S1x1024x512, .fp8e4m3⟩
  | .hbm, ⟨51, _⟩ => ⟨S1x1024x512, .fp8e4m3⟩
  | .hbm, ⟨52, _⟩ => ⟨S1x1024x512, .fp8e4m3⟩
  | .hbm, ⟨53, _⟩ => ⟨S1x1024x512, .fp8e4m3⟩
  | .hbm, ⟨54, _⟩ => ⟨S1x1024x512, .fp8e4m3⟩
  | .hbm, ⟨55, _⟩ => ⟨S1x1024x512, .fp8e4m3⟩
  | .hbm, ⟨56, _⟩ => ⟨S1x1024x512, .fp8e4m3⟩
  | .hbm, ⟨57, _⟩ => ⟨S16x1024x512, .fp8e4m3⟩
  | .hbm, ⟨58, _⟩ => ⟨S4x4096x512, .fp8e4m3⟩
  | .hbm, ⟨59, _⟩ => ⟨S512, .f32⟩
  | .hbm, ⟨60, _⟩ => ⟨S512, .f32⟩
  | .hbm, ⟨61, _⟩ => ⟨S1x512, .f32⟩
  | .hbm, ⟨62, _⟩ => ⟨S1x512, .f32⟩
  | .hbm, ⟨63, _⟩ => ⟨S4x960x512, .bf16⟩
  | .hbm, ⟨64, _⟩ => ⟨S2x2x6x10x16x512, .bf16⟩
  | .hbm, ⟨65, _⟩ => ⟨S2x2x6x10x14x512, .bf16⟩
  | .hbm, ⟨66, _⟩ => ⟨S14x6x2x10x2x512, .bf16⟩
  | .hbm, ⟨67, _⟩ => ⟨S14x12x20x512, .bf16⟩
  | .local _ .vmem, ⟨0, _⟩ => ⟨S8x12x16x1024, .fp8e4m3⟩
  | .local _ .vmem, ⟨1, _⟩ => ⟨S1x4096x512, .fp8e4m3⟩
  | .local _ .vmem, ⟨2, _⟩ => ⟨S1x4096x512, .fp8e4m3⟩
  | .local _ .vmem, ⟨3, _⟩ => ⟨S1x512, .f32⟩
  | .local _ .vmem, ⟨4, _⟩ => ⟨S1x512, .f32⟩
  | .local _ .vmem, ⟨5, _⟩ => ⟨S1x960x512, .bf16⟩
  | .local _ .vmem, ⟨6, _⟩ => ⟨S1x960x512, .bf16⟩
  | .local _ .vmem, ⟨7, _⟩ => ⟨S960x4096, .fp8e4m3⟩
  | _, _ => ⟨S14x6x10x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x12x16x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x960x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S14x6x10x1024 : Shape := ⟨4, ![14, 6, 10, 1024]⟩
abbrev S_ : Shape := ⟨0, ![]⟩
abbrev S1024x512x4x4 : Shape := ⟨4, ![1024, 512, 4, 4]⟩
abbrev S512 : Shape := ⟨1, ![512]⟩
abbrev S14x8x12x1024 : Shape := ⟨4, ![14, 8, 12, 1024]⟩
abbrev S14x6x10x1x1024 : Shape := ⟨5, ![14, 6, 10, 1, 1024]⟩
abbrev S14x6x10x2x1024 : Shape := ⟨5, ![14, 6, 10, 2, 1024]⟩
abbrev S14x6x10x1x2x1024 : Shape := ⟨6, ![14, 6, 10, 1, 2, 1024]⟩
abbrev S14x6x10x2x2x1024 : Shape := ⟨6, ![14, 6, 10, 2, 2, 1024]⟩
abbrev S1024x512x2x2 : Shape := ⟨4, ![1024, 512, 2, 2]⟩
abbrev S14x6x10x512 : Shape := ⟨4, ![14, 6, 10, 512]⟩
abbrev S1x14x6x10x512 : Shape := ⟨5, ![1, 14, 6, 10, 512]⟩
abbrev S2x14x6x10x512 : Shape := ⟨5, ![2, 14, 6, 10, 512]⟩
abbrev S1x2x14x6x10x512 : Shape := ⟨6, ![1, 2, 14, 6, 10, 512]⟩
abbrev S2x2x14x6x10x512 : Shape := ⟨6, ![2, 2, 14, 6, 10, 512]⟩
abbrev S14x6x2x10x2x512 : Shape := ⟨6, ![14, 6, 2, 10, 2, 512]⟩
abbrev S14x12x20x512 : Shape := ⟨4, ![14, 12, 20, 512]⟩
abbrev S1x1x1x512 : Shape := ⟨4, ![1, 1, 1, 512]⟩

abbrev nBuf : Space → Nat
  | .hbm => 94
  | .vmem => 4
  | .smem => 0
  | _ => 0

abbrev bufTy : (tb : Table) → Fin (tcTables nBuf tb) → BufTy
  | .hbm, ⟨0, _⟩ => ⟨S14x6x10x1024, .fp8e4m3⟩
  | .hbm, ⟨1, _⟩ => ⟨S_, .f32⟩
  | .hbm, ⟨2, _⟩ => ⟨S1024x512x4x4, .fp8e4m3⟩
  | .hbm, ⟨3, _⟩ => ⟨S512, .f32⟩
  | .hbm, ⟨4, _⟩ => ⟨S512, .f32⟩
  | .hbm, ⟨5, _⟩ => ⟨S14x6x10x1024, .f32⟩
  | .hbm, ⟨6, _⟩ => ⟨S1024x512x4x4, .f32⟩
  | .hbm, ⟨7, _⟩ => ⟨S_, .i32⟩
  | .hbm, ⟨8, _⟩ => ⟨S_, .f32⟩
  | .hbm, ⟨9, _⟩ => ⟨S14x8x12x1024, .f32⟩
  | .hbm, ⟨10, _⟩ => ⟨S14x6x10x1024, .f32⟩
  | .hbm, ⟨11, _⟩ => ⟨S14x6x10x1024, .f32⟩
  | .hbm, ⟨12, _⟩ => ⟨S14x6x10x1x1024, .f32⟩
  | .hbm, ⟨13, _⟩ => ⟨S14x6x10x1x1024, .f32⟩
  | .hbm, ⟨14, _⟩ => ⟨S14x6x10x2x1024, .f32⟩
  | .hbm, ⟨15, _⟩ => ⟨S14x6x10x1024, .f32⟩
  | .hbm, ⟨16, _⟩ => ⟨S14x6x10x1024, .f32⟩
  | .hbm, ⟨17, _⟩ => ⟨S14x6x10x1x1024, .f32⟩
  | .hbm, ⟨18, _⟩ => ⟨S14x6x10x1x1024, .f32⟩
  | .hbm, ⟨19, _⟩ => ⟨S14x6x10x2x1024, .f32⟩
  | .hbm, ⟨20, _⟩ => ⟨S14x6x10x1x2x1024, .f32⟩
  | .hbm, ⟨21, _⟩ => ⟨S14x6x10x1x2x1024, .f32⟩
  | .hbm, ⟨22, _⟩ => ⟨S14x6x10x2x2x1024, .f32⟩
  | .hbm, ⟨23, _⟩ => ⟨S1024x512x2x2, .f32⟩
  | .hbm, ⟨24, _⟩ => ⟨S1024x512x2x2, .f32⟩
  | .hbm, ⟨25, _⟩ => ⟨S14x6x10x512, .f32⟩
  | .hbm, ⟨26, _⟩ => ⟨S14x6x10x1024, .f32⟩
  | .hbm, ⟨27, _⟩ => ⟨S14x6x10x1024, .f32⟩
  | .hbm, ⟨28, _⟩ => ⟨S14x6x10x1x1024, .f32⟩
  | .hbm, ⟨29, _⟩ => ⟨S14x6x10x1x1024, .f32⟩
  | .hbm, ⟨30, _⟩ => ⟨S14x6x10x2x1024, .f32⟩
  | .hbm, ⟨31, _⟩ => ⟨S14x6x10x1024, .f32⟩
  | .hbm, ⟨32, _⟩ => ⟨S14x6x10x1024, .f32⟩
  | .hbm, ⟨33, _⟩ => ⟨S14x6x10x1x1024, .f32⟩
  | .hbm, ⟨34, _⟩ => ⟨S14x6x10x1x1024, .f32⟩
  | .hbm, ⟨35, _⟩ => ⟨S14x6x10x2x1024, .f32⟩
  | .hbm, ⟨36, _⟩ => ⟨S14x6x10x1x2x1024, .f32⟩
  | .hbm, ⟨37, _⟩ => ⟨S14x6x10x1x2x1024, .f32⟩
  | .hbm, ⟨38, _⟩ => ⟨S14x6x10x2x2x1024, .f32⟩
  | .hbm, ⟨39, _⟩ => ⟨S1024x512x2x2, .f32⟩
  | .hbm, ⟨40, _⟩ => ⟨S1024x512x2x2, .f32⟩
  | .hbm, ⟨41, _⟩ => ⟨S14x6x10x512, .f32⟩
  | .hbm, ⟨42, _⟩ => ⟨S1x14x6x10x512, .f32⟩
  | .hbm, ⟨43, _⟩ => ⟨S1x14x6x10x512, .f32⟩
  | .hbm, ⟨44, _⟩ => ⟨S2x14x6x10x512, .f32⟩
  | .hbm, ⟨45, _⟩ => ⟨S14x6x10x1024, .f32⟩
  | .hbm, ⟨46, _⟩ => ⟨S14x6x10x1024, .f32⟩
  | .hbm, ⟨47, _⟩ => ⟨S14x6x10x1x1024, .f32⟩
  | .hbm, ⟨48, _⟩ => ⟨S14x6x10x1x1024, .f32⟩
  | .hbm, ⟨49, _⟩ => ⟨S14x6x10x2x1024, .f32⟩
  | .hbm, ⟨50, _⟩ => ⟨S14x6x10x1024, .f32⟩
  | .hbm, ⟨51, _⟩ => ⟨S14x6x10x1024, .f32⟩
  | .hbm, ⟨52, _⟩ => ⟨S14x6x10x1x1024, .f32⟩
  | .hbm, ⟨53, _⟩ => ⟨S14x6x10x1x1024, .f32⟩
  | .hbm, ⟨54, _⟩ => ⟨S14x6x10x2x1024, .f32⟩
  | .hbm, ⟨55, _⟩ => ⟨S14x6x10x1x2x1024, .f32⟩
  | .hbm, ⟨56, _⟩ => ⟨S14x6x10x1x2x1024, .f32⟩
  | .hbm, ⟨57, _⟩ => ⟨S14x6x10x2x2x1024, .f32⟩
  | .hbm, ⟨58, _⟩ => ⟨S1024x512x2x2, .f32⟩
  | .hbm, ⟨59, _⟩ => ⟨S1024x512x2x2, .f32⟩
  | .hbm, ⟨60, _⟩ => ⟨S14x6x10x512, .f32⟩
  | .hbm, ⟨61, _⟩ => ⟨S14x6x10x1024, .f32⟩
  | .hbm, ⟨62, _⟩ => ⟨S14x6x10x1024, .f32⟩
  | .hbm, ⟨63, _⟩ => ⟨S14x6x10x1x1024, .f32⟩
  | .hbm, ⟨64, _⟩ => ⟨S14x6x10x1x1024, .f32⟩
  | .hbm, ⟨65, _⟩ => ⟨S14x6x10x2x1024, .f32⟩
  | .hbm, ⟨66, _⟩ => ⟨S14x6x10x1024, .f32⟩
  | .hbm, ⟨67, _⟩ => ⟨S14x6x10x1024, .f32⟩
  | .hbm, ⟨68, _⟩ => ⟨S14x6x10x1x1024, .f32⟩
  | .hbm, ⟨69, _⟩ => ⟨S14x6x10x1x1024, .f32⟩
  | .hbm, ⟨70, _⟩ => ⟨S14x6x10x2x1024, .f32⟩
  | .hbm, ⟨71, _⟩ => ⟨S14x6x10x1x2x1024, .f32⟩
  | .hbm, ⟨72, _⟩ => ⟨S14x6x10x1x2x1024, .f32⟩
  | .hbm, ⟨73, _⟩ => ⟨S14x6x10x2x2x1024, .f32⟩
  | .hbm, ⟨74, _⟩ => ⟨S1024x512x2x2, .f32⟩
  | .hbm, ⟨75, _⟩ => ⟨S1024x512x2x2, .f32⟩
  | .hbm, ⟨76, _⟩ => ⟨S14x6x10x512, .f32⟩
  | .hbm, ⟨77, _⟩ => ⟨S1x14x6x10x512, .f32⟩
  | .hbm, ⟨78, _⟩ => ⟨S1x14x6x10x512, .f32⟩
  | .hbm, ⟨79, _⟩ => ⟨S2x14x6x10x512, .f32⟩
  | .hbm, ⟨80, _⟩ => ⟨S1x2x14x6x10x512, .f32⟩
  | .hbm, ⟨81, _⟩ => ⟨S1x2x14x6x10x512, .f32⟩
  | .hbm, ⟨82, _⟩ => ⟨S2x2x14x6x10x512, .f32⟩
  | .hbm, ⟨83, _⟩ => ⟨S14x6x2x10x2x512, .f32⟩
  | .hbm, ⟨84, _⟩ => ⟨S14x12x20x512, .f32⟩
  | .hbm, ⟨85, _⟩ => ⟨S512, .f32⟩
  | .hbm, ⟨86, _⟩ => ⟨S512, .f32⟩
  | .hbm, ⟨87, _⟩ => ⟨S1x1x1x512, .f32⟩
  | .hbm, ⟨88, _⟩ => ⟨S14x12x20x512, .f32⟩
  | .hbm, ⟨89, _⟩ => ⟨S14x12x20x512, .f32⟩
  | .hbm, ⟨90, _⟩ => ⟨S1x1x1x512, .f32⟩
  | .hbm, ⟨91, _⟩ => ⟨S14x12x20x512, .f32⟩
  | .hbm, ⟨92, _⟩ => ⟨S14x12x20x512, .f32⟩
  | .hbm, ⟨93, _⟩ => ⟨S14x12x20x512, .bf16⟩
  | .local _ .vmem, ⟨0, _⟩ => ⟨S14x6x10x1024, .fp8e4m3⟩
  | .local _ .vmem, ⟨1, _⟩ => ⟨S1024x512x4x4, .fp8e4m3⟩
  | .local _ .vmem, ⟨2, _⟩ => ⟨S14x6x10x1024, .f32⟩
  | .local _ .vmem, ⟨3, _⟩ => ⟨S1024x512x4x4, .f32⟩
  | _, _ => ⟨S14x6x10x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S14x6x10x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512x4x4 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14x6x10x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512x4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelBlock.lean ====
/- What one grid point of the kernel leaves in its block: phase `p`'s product of shifted input slabs with that phase's
   weights, scaled and shifted per channel. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The left operand of phase `p`'s product: row `(y * 10 + z) * 16 + n` lists, one shift of the phase's 2 by 2 window after
    the other, the 1024 channels of the padded image `n` at the shifted pixel. -/
def lhs (x : FVec Ideal S8x12x16x1024 .fp8e4m3) (p : Fin 4) : FVec Ideal S960x4096 .fp8e4m3 := fun i =>
  have h0 : (i 0 : ℕ) < 960 := (i 0).isLt
  have h1 : (i 1 : ℕ) < 4096 := (i 1).isLt
  x (ix4 ⟨(i 0).val / 160 + p.val / 2 + (i 1).val / 2048, by omega⟩ ⟨(i 0).val / 16 % 10 + p.val % 2 + (i 1).val / 1024 % 2, by omega⟩
    ⟨(i 0).val % 16, by omega⟩ ⟨(i 1).val % 1024, by omega⟩)

/-- One of the four input slabs, as it is loaded and flattened, is the matching quarter of the left operand. -/
theorem slab (x : FVec Ideal S8x12x16x1024 .fp8e4m3) (p : Fin 4) (r s q : ℕ)
    (inb : ∀ a, (![r, s, 0, 0] : Fin 4 → ℕ) a + S6x10x16x1024.size a ≤ S8x12x16x1024.size a)
    (inb' : ∀ a, (![0, q] : Fin 2 → ℕ) a + S960x1024.size a ≤ S960x4096.size a)
    (hr : r = p.val / 2 + q / 2048) (hs : s = p.val % 2 + q / 1024 % 2) (hq : q % 1024 = 0) (z : S960x1024.Idx) :
    k0_pay1 (View.ld x (Rect.unit (s := S8x12x16x1024) ![r, s, 0, 0] S6x10x16x1024.size inb)) z
      = lhs x p ((Rect.unit (s := S960x4096) ![0, q] S960x1024.size inb').emb z) := by
  have h0 : (z 0 : ℕ) < 960 := (z 0).isLt
  have h1 : (z 1 : ℕ) < 1024 := (z 1).isLt
  pointwise [k0_pay1, lhs]
  blk_ext

/-- Four stores that each write a quarter of `G` leave `G` to be read back whole. -/
theorem scratch_read (G : FVec Ideal S960x4096 .fp8e4m3) (P0 P1 P2 P3 : FVec Ideal S960x1024 .fp8e4m3)
    (h0 : ∀ z, P0 z = G ((Rect.unit (s := S960x4096) ![0, 0] S960x1024.size inb_S960x4096_S960x1024_0_0).emb z))
    (h1 : ∀ z, P1 z = G ((Rect.unit (s := S960x4096) ![0, 1024] S960x1024.size inb_S960x4096_S960x1024_0_1024).emb z))
    (h2 : ∀ z, P2 z = G ((Rect.unit (s := S960x4096) ![0, 2048] S960x1024.size inb_S960x4096_S960x1024_0_2048).emb z))
    (h3 : ∀ z, P3 z = G ((Rect.unit (s := S960x4096) ![0, 3072] S960x1024.size inb_S960x4096_S960x1024_0_3072).emb z)) :
    (View.whole cc0_scratch0).readCov (Val := Elt Ideal)
      [⟨Rect.unit (s := S960x4096) ![0, 3072] S960x1024.size inb_S960x4096_S960x1024_0_3072, P3⟩,
       ⟨Rect.unit (s := S960x4096) ![0, 2048] S960x1024.size inb_S960x4096_S960x1024_0_2048, P2⟩,
       ⟨Rect.unit (s := S960x4096) ![0, 1024] S960x1024.size inb_S960x4096_S960x1024_0_1024, P1⟩,
       ⟨Rect.unit (s := S960x4096) ![0, 0] S960x1024.size inb_S960x4096_S960x1024_0_0, P0⟩]
      (Rect.unit (s := S960x4096) ![0, 0] S960x4096.size inb_S960x4096_S960x4096_0_0).toLoadRect = G := by
  rw [View.readCov_eq_canon']
  funext j
  refine (View.canon_apply_of_pieces G _ ?_ _ ?_).trans ?_
  · intro p hp
    simp only [List.mem_cons, List.not_mem_nil, or_false] at hp
    rcases hp with rfl | rfl | rfl | rfl
    exacts [h3, h2, h1, h0]
  · exact View.cover_of_tiledL (Val := Elt Ideal) (e := .fp8e4m3)
      [⟨Rect.unit (s := S960x4096) ![0, 3072] S960x1024.size inb_S960x4096_S960x1024_0_3072, P3⟩,
       ⟨Rect.unit (s := S960x4096) ![0, 2048] S960x1024.size inb_S960x4096_S960x1024_0_2048, P2⟩,
       ⟨Rect.unit (s := S960x4096) ![0, 1024] S960x1024.size inb_S960x4096_S960x1024_0_1024, P1⟩,
       ⟨Rect.unit (s := S960x4096) ![0, 0] S960x1024.size inb_S960x4096_S960x1024_0_0, P0⟩] S960x1024.size (by sl_kernel_rfl) _
  · refine congrArg G ?_
    funext a
    refine Fin.ext ?_
    fin_cases a <;> simp [LoadRect.idx]

/-- The block of phase `p`: every row of the left operand against every column of the weights, times the channel's
    scale, plus the channel's bias. -/
def blockVal (x0 : FVec Ideal S8x12x16x1024 .fp8e4m3) (x1 : FVec Ideal S1x4096x512 .fp8e4m3) (x2 x3 : FVec Ideal S1x512 .f32)
    (p : Fin 4) : FVec Ideal S1x960x512 .bf16 := fun y =>
  (∑ k : Fin 4096, lhs x0 p (ix2 (y 1) k) * x1 (ix3 0 k (y 2))) * x2 (ix2 0 (y 2)) + x3 (ix2 0 (y 2))

/-- The last stored value is the block of phase `p`, its rounding to bfloat16 being exact here. -/
theorem pay (x0 : FVec Ideal S8x12x16x1024 .fp8e4m3) (x1 : FVec Ideal S1x4096x512 .fp8e4m3) (x2 x3 : FVec Ideal S1x512 .f32)
    (p : Fin 4) : k0_pay17 (lhs x0 p) x1 x2 x3 = blockVal x0 x1 x2 x3 p := by
  funext y
  pointwise [k0_pay17, blockVal]

/-- The last stored value when the scratch was filled with the four quarters of phase `p`'s left operand. -/
theorem pay_of_slabs (x0 : FVec Ideal S8x12x16x1024 .fp8e4m3) (x1 : FVec Ideal S1x4096x512 .fp8e4m3) (x2 x3 : FVec Ideal S1x512 .f32)
    (p : Fin 4) (P0 P1 P2 P3 : FVec Ideal S960x1024 .fp8e4m3)
    (h0 : ∀ z, P0 z = lhs x0 p ((Rect.unit (s := S960x4096) ![0, 0] S960x1024.size inb_S960x4096_S960x1024_0_0).emb z))
    (h1 : ∀ z, P1 z = lhs x0 p ((Rect.unit (s := S960x4096) ![0, 1024] S960x1024.size inb_S960x4096_S960x1024_0_1024).emb z))
    (h2 : ∀ z, P2 z = lhs x0 p ((Rect.unit (s := S960x4096) ![0, 2048] S960x1024.size inb_S960x4096_S960x1024_0_2048).emb z))
    (h3 : ∀ z, P3 z = lhs x0 p ((Rect.unit (s := S960x4096) ![0, 3072] S960x1024.size inb_S960x4096_S960x1024_0_3072).emb z)) :
    k0_pay17 ((View.whole cc0_scratch0).readCov (Val := Elt Ideal)
      [⟨Rect.unit (s := S960x4096) ![0, 3072] S960x1024.size inb_S960x4096_S960x1024_0_3072, P3⟩,
       ⟨Rect.unit (s := S960x4096) ![0, 2048] S960x1024.size inb_S960x4096_S960x1024_0_2048, P2⟩,
       ⟨Rect.unit (s := S960x4096) ![0, 1024] S960x1024.size inb_S960x4096_S960x1024_0_1024, P1⟩,
       ⟨Rect.unit (s := S960x4096) ![0, 0] S960x1024.size inb_S960x4096_S960x1024_0_0, P0⟩]
      (Rect.unit (s := S960x4096) ![0, 0] S960x4096.size inb_S960x4096_S960x4096_0_0).toLoadRect) x1 x2 x3
      = blockVal x0 x1 x2 x3 p := by
  rw [scratch_read (lhs x0 p) P0 P1 P2 P3 h0 h1 h2 h3]
  exact pay x0 x1 x2 x3 p

/-- What grid point `t` leaves in the output block is the block of phase `t`. -/
theorem block (c : Dev nD) (t : Fin cfg0.N) (p : Fin 4) (hp : t.val % 4 = p.val) :
    outsAt0 m c t.val t.isLt = blockVal (iblk m c 0 t) (iblk m c 1 t) (iblk m c 2 t) (iblk m c 3 t) p := by
  match p, hp with
  | 0, hp =>
    rw [outsAt0_A m c t hp (by rw [hp]; decide) (by rw [hp]; decide) (by rw [hp]; decide)]; frame_out
    exact pay_of_slabs _ _ _ _ _ _ _ _ _ (slab _ _ _ _ _ _ _ rfl rfl rfl) (slab _ _ _ _ _ _ _ rfl rfl rfl)
      (slab _ _ _ _ _ _ _ rfl rfl rfl) (slab _ _ _ _ _ _ _ rfl rfl rfl)
  | 1, hp =>
    rw [outsAt0_B m c t (by rw [hp]; decide) hp (by rw [hp]; decide) (by rw [hp]; decide)]; frame_out
    exact pay_of_slabs _ _ _ _ _ _ _ _ _ (slab _ _ _ _ _ _ _ rfl rfl rfl) (slab _ _ _ _ _ _ _ rfl rfl rfl)
      (slab _ _ _ _ _ _ _ rfl rfl rfl) (slab _ _ _ _ _ _ _ rfl rfl rfl)
  | 2, hp =>
    rw [outsAt0_C m c t (by rw [hp]; decide) (by rw [hp]; decide) hp (by rw [hp]; decide)]; frame_out
    exact pay_of_slabs _ _ _ _ _ _ _ _ _ (slab _ _ _ _ _ _ _ rfl rfl rfl) (slab _ _ _ _ _ _ _ rfl rfl rfl)
      (slab _ _ _ _ _ _ _ rfl rfl rfl) (slab _ _ _ _ _ _ _ rfl rfl rfl)
  | 3, hp =>
    rw [outsAt0_D m c t (by rw [hp]; decide) (by rw [hp]; decide) (by rw [hp]; decide) hp]; frame_out
    exact pay_of_slabs _ _ _ _ _ _ _ _ _ (slab _ _ _ _ _ _ _ rfl rfl rfl) (slab _ _ _ _ _ _ _ rfl rfl rfl)
      (slab _ _ _ _ _ _ _ rfl rfl rfl) (slab _ _ _ _ _ _ _ rfl rfl rfl)

end Cert.KernelIdeal.Value

end
-- ==== Proof.KernelArray.lean ====
/- What the kernel leaves in its output array: block `p` is phase `p`'s product, entry by entry. -/
module

public import proofs.«01_k».proof.Proof.KernelBlock

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The kernel's output array, entry by entry, from the four arrays it reads. -/
def phases (x : FVec Ideal S8x12x16x1024 .fp8e4m3) (w : FVec Ideal S4x4096x512 .fp8e4m3) (s b : FVec Ideal S1x512 .f32) :
    FVec Ideal S4x960x512 .bf16 := fun i =>
  (∑ k : Fin 4096, lhs x (i 0) (ix2 (i 1) k) * w (ix3 (i 0) k (i 2))) * s (ix2 0 (i 2)) + b (ix2 0 (i 2))

/-- The block of phase `p`, computed from phase `p`'s weights, is block `p` of the output array. -/
theorem blockVal_eq_phases (x : FVec Ideal S8x12x16x1024 .fp8e4m3) (w1 : FVec Ideal S1x4096x512 .fp8e4m3)
    (w : FVec Ideal S4x4096x512 .fp8e4m3) (s b : FVec Ideal S1x512 .f32) (p : Fin 4)
    (hw : ∀ (k : Fin 4096) (o : Fin 512), w1 (ix3 0 k o) = w (ix3 p k o)) (y : S1x960x512.Idx) :
    blockVal x w1 s b p y = phases x w s b (ix3 p (y 1) (y 2)) := by
  show (∑ k : Fin 4096, lhs x p (ix2 (y 1) k) * w1 (ix3 0 k (y 2))) * s (ix2 0 (y 2)) + b (ix2 0 (y 2))
    = (∑ k : Fin 4096, lhs x p (ix2 (y 1) k) * w (ix3 p k (y 2))) * s (ix2 0 (y 2)) + b (ix2 0 (y 2))
  refine congrArg (fun u : EReal => u * s (ix2 0 (y 2)) + b (ix2 0 (y 2))) (Finset.sum_congr rfl fun k _ => ?_)
  exact congrArg (fun v : EReal => lhs x p (ix2 (y 1) k) * v) (hw k (y 2))

/-- Every grid point reads the whole image. -/
theorem index0 : ∀ t : Fin cfg0.N, win0_0.index t = ![0, 0, 0, 0] := (by decide +kernel : ∀ t : Fin grid0.N, _)
/-- Grid point `t` reads block `t` of the weights. -/
theorem index1 : ∀ t : Fin cfg0.N, win0_1.index t = ![t.val, 0, 0] := (by decide +kernel : ∀ t : Fin grid0.N, _)
/-- Every grid point reads all the scales. -/
theorem index2 : ∀ t : Fin cfg0.N, win0_2.index t = ![0, 0] := (by decide +kernel : ∀ t : Fin grid0.N, _)
/-- Every grid point reads all the biases. -/
theorem index3 : ∀ t : Fin cfg0.N, win0_3.index t = ![0, 0] := (by decide +kernel : ∀ t : Fin grid0.N, _)
/-- Grid point `t` writes block `t` of the output. -/
theorem index4 : ∀ t : Fin cfg0.N, win0_4.index t = ![t.val, 0, 0] := (by decide +kernel : ∀ t : Fin grid0.N, _)

/-- The image block of any grid point is the whole image. -/
theorem iblk_image (c : Dev nD) (t : Fin cfg0.N) : (iblk m c 0 t : FVec Ideal S8x12x16x1024 .fp8e4m3) = V m c main_v2 := by
  funext y
  blk_simp [iblk, index0 t]
  refine congrArg _ ?_
  blk_ext [index0 t]

/-- The scale block of any grid point is all the scales. -/
theorem iblk_scale (c : Dev nD) (t : Fin cfg0.N) : (iblk m c 2 t : FVec Ideal S1x512 .f32) = V m c main_v55 := by
  funext y
  blk_simp [iblk, index2 t]
  refine congrArg _ ?_
  blk_ext [index2 t]

/-- The bias block of any grid point is all the biases. -/
theorem iblk_bias (c : Dev nD) (t : Fin cfg0.N) : (iblk m c 3 t : FVec Ideal S1x512 .f32) = V m c main_v56 := by
  funext y
  blk_simp [iblk, index3 t]
  refine congrArg _ ?_
  blk_ext [index3 t]

/-- Block `t` of an array of weights by phase is phase `t`'s weights. -/
theorem read_weights (t : Fin cfg0.N) (A : FVec Ideal S4x4096x512 .fp8e4m3) (p : Fin 4) (hp : p.val = t.val)
    (y : S1x4096x512.Idx) :
    (View.read (Elt Ideal) ((cfg0.win 1).blk t).view A : FVec Ideal S1x4096x512 .fp8e4m3) y = A (ix3 p (y 1) (y 2)) := by
  have h : (win0_1.blk t).view.emb y = ix3 p (y 1) (y 2) := by
    blk_ext [index1 t]
  exact congrArg A h

/-- The weight block of grid point `t` is phase `t`'s weights. -/
theorem iblk_weights (c : Dev nD) (t : Fin cfg0.N) (p : Fin 4) (hp : p.val = t.val) (k : Fin 4096) (o : Fin 512) :
    (iblk m c 1 t : FVec Ideal S1x4096x512 .fp8e4m3) (ix3 0 k o)
      = (V m c main_v52 : FVec Ideal S4x4096x512 .fp8e4m3) (ix3 p k o) :=
  read_weights t (V m c main_v52) p hp (ix3 0 k o)

/-- After the run the output array holds the four phases. -/
theorem array (c : Dev nD) :
    (dats m 0 c).arrAt 4 (cfgs 0).N = phases (V m c main_v2) (V m c main_v52) (V m c main_v55) (V m c main_v56) := by
  refine (dats m 0 c).arrAt_eq_of_covers 4 _ (by decide +kernel) fun t hf y => ?_
  have ht : t.val < 4 := t.isLt
  blk_simp
  rw [after0_4, block m c t ⟨t.val, ht⟩ (Nat.mod_eq_of_lt ht)]
  have h : (win0_4.blk t).view.emb y = ix3 ⟨t.val, ht⟩ (y 1) (y 2) := by
    blk_ext [index4 t]
  refine Eq.trans ?_ (congrArg (phases (V m c main_v2) (V m c main_v52) (V m c main_v55) (V m c main_v56)) h).symm
  rw [iblk_image, iblk_scale, iblk_bias]
  exact blockVal_eq_phases _ _ _ _ _ ⟨t.val, ht⟩ (iblk_weights m c t ⟨t.val, ht⟩ rfl) y

end Cert.KernelIdeal.Value

end
-- ==== Proof.Spec.lean ====
/- The transposed convolution, phase by phase, in terms of the argument arrays: the value both programs are shown to
   compute. Nothing here depends on either program. -/
module

public import Idealize.ShloMosaic.Lib.Pointwise
public import Idealize.ShloMosaic.Lib.Claim

@[expose] public section

noncomputable section

open Idealize.ShloMosaic

namespace Cert.Deconv

/-- Shape of the input images: 14 images of 6 by 10 pixels with 1024 channels. -/
abbrev SIn : Shape := ⟨4, ![14, 6, 10, 1024]⟩
/-- Shape of the weights: input channel, output channel, tap row, tap column. -/
abbrev SWeight : Shape := ⟨4, ![1024, 512, 4, 4]⟩
/-- Shape of a number. -/
abbrev SOne : Shape := ⟨0, ![]⟩
/-- Shape of a number per output channel. -/
abbrev SChan : Shape := ⟨1, ![512]⟩
/-- Shape of the output images: 14 images of 12 by 20 pixels with 512 channels. -/
abbrev SOut : Shape := ⟨4, ![14, 12, 20, 512]⟩

/-- The input image inside a frame of zeros one pixel wide, at row `r` and column `s` counted from the frame's corner. -/
def padded (x : SIn.Idx → EReal) (n : Fin 14) (r s : ℕ) (k : Fin 1024) : EReal :=
  if h : (1 ≤ r ∧ r - 1 < 6) ∧ 1 ≤ s ∧ s - 1 < 10 then x (ix4 n ⟨r - 1, h.1.2⟩ ⟨s - 1, h.2.2⟩ k) else 0

/-- The weight tap that output pixels of row parity `py` and column parity `px` apply to row `a` and column `b` of
    their 2 by 2 window. -/
def tap (w : SWeight.Idx → EReal) (py px a b : ℕ) (k : Fin 1024) (o : Fin 512) : EReal :=
  w (ix4 k o ⟨3 - py - 2 * a, by omega⟩ ⟨3 - px - 2 * b, by omega⟩)

/-- The convolution sum of one output pixel: image `n`, row `2 y + py`, column `2 z + px`, output channel `o`. -/
def phase (x : SIn.Idx → EReal) (w : SWeight.Idx → EReal) (py px : ℕ) (n : Fin 14) (y z : ℕ) (o : Fin 512) : EReal :=
  ∑ a : Fin 2, ∑ b : Fin 2, ∑ k : Fin 1024, padded x n (y + py + a) (z + px + b) k * tap w py px a b k o

/-- The whole layer: the convolution sum times the input's scale times the channel's weight scale, plus the bias. -/
def layer (x : SIn.Idx → EReal) (xs : SOne.Idx → EReal) (w : SWeight.Idx → EReal) (ws b : SChan.Idx → EReal) :
    SOut.Idx → EReal := fun j =>
  phase x w ((j 1).val % 2) ((j 2).val % 2) (j 0) ((j 1).val / 2) ((j 2).val / 2) (j 3) * (xs ix0 * ws (ix1 (j 3)))
    + b (ix1 (j 3))

/-- A sum over 4096 = 2 · 2 · 1024 positions as three nested sums. -/
theorem sum_4096 (f : Fin 4096 → EReal) :
    ∑ k : Fin 4096, f k
      = ∑ a : Fin 2, ∑ b : Fin 2, ∑ c : Fin 1024, f ⟨a.val * 2048 + (b.val * 1024 + c.val), by omega⟩ := by
  rw [Fin.sum_univ_tiles 2 2048 rfl]
  refine Finset.sum_congr rfl fun a _ => ?_
  rw [Fin.sum_univ_tiles 2 1024 rfl]

end Cert.Deconv

end
-- ==== Proof.KernelEntry.lean ====
/- What the host operations before the kernel leave in the four arrays the kernel reads: the framed image, the sixteen
   weight taps in the kernel's order, the channel scales and the biases. -/
module

public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- Sixteen slices laid end to end: position `q` holds slice `q`. -/
theorem concat16 (p : Fin 16 → FVec Ideal S1x1024x512 .fp8e4m3) (h) (q : Fin 16) (k : Fin 1024) (o : Fin 512) :
    (concatenate S16x1024x512 0 [⟨S1x1024x512, p 0⟩, ⟨S1x1024x512, p 1⟩, ⟨S1x1024x512, p 2⟩, ⟨S1x1024x512, p 3⟩,
      ⟨S1x1024x512, p 4⟩, ⟨S1x1024x512, p 5⟩, ⟨S1x1024x512, p 6⟩, ⟨S1x1024x512, p 7⟩, ⟨S1x1024x512, p 8⟩, ⟨S1x1024x512, p 9⟩,
      ⟨S1x1024x512, p 10⟩, ⟨S1x1024x512, p 11⟩, ⟨S1x1024x512, p 12⟩, ⟨S1x1024x512, p 13⟩, ⟨S1x1024x512, p 14⟩,
      ⟨S1x1024x512, p 15⟩] h : FVec Ideal S16x1024x512 .fp8e4m3) (ix3 q k o) = p q (ix3 0 k o) := by
  refine concatenate_ofFn_unit_apply (s₁ := S1x1024x512) 0 p h rfl rfl (ix3 q k o) q rfl (ix3 0 k o) fun b hb => ?_
  fin_cases b
  · exact absurd rfl hb
  · rfl
  · rfl

/-- The sixteen weight slices, in the order in which the host lays them end to end. -/
def pieces (W : Valuation τ sig (Elt Ideal)) : Fin 16 → FVec Ideal S1x1024x512 .fp8e4m3 :=
  ![W (Proc.devRef .tc main_v35), W (Proc.devRef .tc main_v36), W (Proc.devRef .tc main_v37), W (Proc.devRef .tc main_v38),
    W (Proc.devRef .tc main_v39), W (Proc.devRef .tc main_v40), W (Proc.devRef .tc main_v41), W (Proc.devRef .tc main_v42),
    W (Proc.devRef .tc main_v43), W (Proc.devRef .tc main_v44), W (Proc.devRef .tc main_v45), W (Proc.devRef .tc main_v46),
    W (Proc.devRef .tc main_v47), W (Proc.devRef .tc main_v48), W (Proc.devRef .tc main_v49), W (Proc.devRef .tc main_v50)]
/-- The joined weights at position `q` are slice `q`. -/
theorem joined (W : Valuation τ sig (Elt Ideal)) (q : Fin 16) (k : Fin 1024) (o : Fin 512) :
    (StableHlo.after (hostOps0.drop 52) W (Proc.devRef .tc main_v51) : FVec Ideal S16x1024x512 .fp8e4m3) (ix3 q k o)
      = pieces W q (ix3 0 k o) := by
  simp only [List.drop_succ_cons, List.drop_zero]
  after_results
  exact concat16 (pieces W) _ q k o

/-- Slice `q` is one tap of the weights. -/
theorem pieces_read (W : Valuation τ sig (Elt Ideal)) (q : Fin 16) (k : Fin 1024) (o : Fin 512) :
    pieces (StableHlo.after (hostOps0.take 52) W) q (ix3 0 k o)
      = (W (Proc.devRef .tc main_arg2) : FVec Ideal S1024x512x4x4 .fp8e4m3)
          (ix4 k o ⟨3 - q.val / 8 - 2 * (q.val / 2 % 2), by omega⟩ ⟨3 - q.val / 4 % 2 - 2 * (q.val % 2), by omega⟩) := by
  simp only [List.take_succ_cons, List.take_zero, pieces]
  match q with
  | 0 | 1 | 2 | 3 | 4 | 5 | 6 | 7 | 8 | 9 | 10 | 11 | 12 | 13 | 14 | 15 =>
    dsimp only [Matrix.cons_val]
    after_reads_at
    try rfl
  | ⟨n + 16, h⟩ => exact absurd h (by omega)

/-- The joined weights grouped by phase: four consecutive slices to a phase. -/
theorem grouped (c : Dev nD) (p : Fin 4) (k : Fin 4096) (o : Fin 512) :
    (V m c main_v52 : FVec Ideal S4x4096x512 .fp8e4m3) (ix3 p k o)
      = (V m c main_v51 : FVec Ideal S16x1024x512 .fp8e4m3)
          (ix3 ⟨p.val * 4 + k.val / 1024, by omega⟩ ⟨k.val % 1024, by omega⟩ o) := by
  unfold_abbrev_sides
  simp only [List.flatten_cons, List.flatten_nil, List.append_nil]
  rw [← List.take_append_drop 53 (hostOps0 (F := Ideal)), StableHlo.after_append]
  generalize StableHlo.after ((hostOps0 (F := Ideal)).take 53) _ = W
  simp only [List.drop_succ_cons, List.drop_zero]
  after_results
  pointwise
/-- The weights the kernel reads: phase `p`, position `k` of the window's 4096 channels, output channel `o`. -/
theorem weights_read (c : Dev nD) (p : Fin 4) (k : Fin 4096) (o : Fin 512) :
    (V m c main_v52 : FVec Ideal S4x4096x512 .fp8e4m3) (ix3 p k o)
      = Deconv.tap (m ((c.tc : Thread nD τ).loc main_arg2)) (p.val / 2) (p.val % 2) (k.val / 2048) (k.val / 1024 % 2)
          ⟨k.val % 1024, by omega⟩ o := by
  rw [grouped]
  unfold_abbrev_sides
  simp only [List.flatten_cons, List.flatten_nil, List.append_nil]
  rw [← List.take_append_drop 52 (hostOps0 (F := Ideal)), StableHlo.after_append, joined, pieces_read]
  unfold Deconv.tap
  have hp := p.isLt
  have hk := k.isLt
  refine congrArg _ ?_
  funext a
  refine Fin.ext ?_
  fin_cases a
  · rfl
  · rfl
  · show 3 - (p.val * 4 + k.val / 1024) / 8 - 2 * ((p.val * 4 + k.val / 1024) / 2 % 2) = 3 - p.val / 2 - 2 * (k.val / 2048)
    omega
  · show 3 - (p.val * 4 + k.val / 1024) / 4 % 2 - 2 * ((p.val * 4 + k.val / 1024) % 2)
      = 3 - p.val % 2 - 2 * (k.val / 1024 % 2)
    have h1 : (p.val * 4 + k.val / 1024) / 4 = p.val := by omega
    have h2 : (p.val * 4 + k.val / 1024) % 2 = k.val / 1024 % 2 := by omega
    rw [h1, h2]

/-- The image the kernel reads: row, column, image, channel of the image framed by zeros; the two images added at the end
    of the batch are not read here. -/
theorem image_read (c : Dev nD) (r : Fin 8) (s : Fin 12) (n : Fin 16) (hn : n.val < 14) (k : Fin 1024) :
    (V m c main_v2 : FVec Ideal S8x12x16x1024 .fp8e4m3) (ix4 r s n k)
      = Deconv.padded (m ((c.tc : Thread nD τ).loc main_arg0)) ⟨n.val, hn⟩ r.val s.val k := by
  unfold_abbrev_sides
  simp only [List.flatten_cons, List.flatten_nil, List.append_nil]
  unfold hostOps0
  after_reads_at
  unfold Deconv.padded
  by_cases h : (1 ≤ r.val ∧ r.val - 1 < 6) ∧ 1 ≤ s.val ∧ s.val - 1 < 10
  · rw [dif_pos h, dif_pos ⟨h.1, h.2, hn⟩]
  · rw [dif_neg h, dif_neg fun h' => h ⟨h'.1, h'.2.1⟩]
    exact Ideal.ofBits_zero .fp8e4m3

/-- The scales the kernel reads: the input's scale times the channel's weight scale. -/
theorem scale_read (c : Dev nD) (o : Fin 512) :
    (V m c main_v55 : FVec Ideal S1x512 .f32) (ix2 0 o)
      = (fun (s : FVec Ideal S_ .f32) (w : FVec Ideal S512 .f32) => s ix0 * w (ix1 o))
          (m ((c.tc : Thread nD τ).loc main_arg1)) (m ((c.tc : Thread nD τ).loc main_arg3)) := by
  unfold_abbrev_sides
  simp only [List.flatten_cons, List.flatten_nil, List.append_nil]
  unfold hostOps0
  after_reads_at

/-- The biases the kernel reads. -/
theorem bias_read (c : Dev nD) (o : Fin 512) :
    (V m c main_v56 : FVec Ideal S1x512 .f32) (ix2 0 o)
      = (m ((c.tc : Thread nD τ).loc main_arg4) : FVec Ideal S512 .f32) (ix1 o) := by
  unfold_abbrev_sides
  simp only [List.flatten_cons, List.flatten_nil, List.append_nil]
  unfold hostOps0
  after_reads_at

end Cert.KernelIdeal.Value

end
-- ==== Proof.KernelResult.lean ====
/- The kernel program's result: what the host operations after the kernel make of its output array is the layer of the
   argument arrays. -/
module

public import proofs.«01_k».proof.Proof.KernelArray
public import proofs.«01_k».proof.Proof.KernelEntry

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The output array at phase `p` and row `(y * 10 + z) * 16 + n` is the layer's value before the phases are interleaved. -/
theorem phases_read (c : Dev nD) (p : Fin 4) (r : Fin 960) (n : Fin 14) (hn : r.val % 16 = n.val) (o : Fin 512) :
    phases (V m c main_v2) (V m c main_v52) (V m c main_v55) (V m c main_v56) (ix3 p r o)
      = (fun (xs : FVec Ideal S_ .f32) (ws b : FVec Ideal S512 .f32) =>
          Deconv.phase (m ((c.tc : Thread nD τ).loc main_arg0)) (m ((c.tc : Thread nD τ).loc main_arg2)) (p.val / 2)
            (p.val % 2) n (r.val / 160) (r.val / 16 % 10) o * (xs ix0 * ws (ix1 o)) + b (ix1 o))
          (m ((c.tc : Thread nD τ).loc main_arg1)) (m ((c.tc : Thread nD τ).loc main_arg3)) (m ((c.tc : Thread nD τ).loc main_arg4)) := by
  show (∑ k : Fin 4096, lhs (V m c main_v2) p (ix2 r k) * (V m c main_v52 : FVec Ideal S4x4096x512 .fp8e4m3) (ix3 p k o))
      * (V m c main_v55 : FVec Ideal S1x512 .f32) (ix2 0 o) + (V m c main_v56 : FVec Ideal S1x512 .f32) (ix2 0 o) = _
  rw [scale_read, bias_read, Deconv.sum_4096]
  refine congrArg (fun s : EReal => s * _ + _) ?_
  refine Finset.sum_congr rfl fun a _ => Finset.sum_congr rfl fun b _ => Finset.sum_congr rfl fun k _ => ?_
  have hp := p.isLt
  have hr := r.isLt
  have ha := a.isLt
  have hb := b.isLt
  have hk := k.isLt
  have hn' := n.isLt
  have e1 : (a.val * 2048 + (b.val * 1024 + k.val)) / 2048 = a.val := by omega
  have e2 : (a.val * 2048 + (b.val * 1024 + k.val)) / 1024 % 2 = b.val := by omega
  have e3 : (a.val * 2048 + (b.val * 1024 + k.val)) % 1024 = k.val := by omega
  rw [weights_read]
  refine congrArg₂ (fun u v : EReal => u * v) ?_ ?_
  · refine (image_read m c ⟨r.val / 160 + p.val / 2 + (a.val * 2048 + (b.val * 1024 + k.val)) / 2048, by omega⟩
      ⟨r.val / 16 % 10 + p.val % 2 + (a.val * 2048 + (b.val * 1024 + k.val)) / 1024 % 2, by omega⟩ ⟨r.val % 16, by omega⟩
      (by show r.val % 16 < 14; omega) ⟨(a.val * 2048 + (b.val * 1024 + k.val)) % 1024, by omega⟩).trans ?_
    simp only [e1, e2, e3, hn]
  · simp only [e1, e2, e3]

/-- The kernel program's result is the layer of the arguments. -/
theorem result (c : Dev nD) :
    (Pipeline.afterTail₀ cfgs (dats m) 0 (V0 m) [hostOps1] c main_v61 : FVec Ideal S14x12x20x512 .bf16)
      = Deconv.layer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext j
  unfold Pipeline.afterTail₀
  simp only [List.flatten_cons, List.flatten_nil, List.append_nil, hostOps1]
  after_results
  pointwise
  have e := Pipeline.withArrays_arr (cfgs 0).spec (by decide) c (V0 m c) (fun w => (dats m 0 c).arrAt w (cfgs 0).N) 4
  rw [array] at e
  have h0 : (j 0).val < 14 := (j 0).isLt
  have h1 : (j 1).val < 12 := (j 1).isLt
  have h2 : (j 2).val < 20 := (j 2).isLt
  refine (congrFun e _).trans ?_
  refine (phases_read m c ⟨(j 1).val % 2 * 2 + (j 2).val % 2, by omega⟩
    ⟨(j 1).val / 2 * 160 + (j 2).val / 2 * 16 + (j 0).val, by omega⟩ (j 0)
    (by show ((j 1).val / 2 * 160 + (j 2).val / 2 * 16 + (j 0).val) % 16 = (j 0).val; omega) (j 3)).trans ?_
  have e1 : ((j 1).val % 2 * 2 + (j 2).val % 2) / 2 = (j 1).val % 2 := by omega
  have e2 : ((j 1).val % 2 * 2 + (j 2).val % 2) % 2 = (j 2).val % 2 := by omega
  have e3 : ((j 1).val / 2 * 160 + (j 2).val / 2 * 16 + (j 0).val) / 160 = (j 1).val / 2 := by omega
  have e4 : ((j 1).val / 2 * 160 + (j 2).val / 2 * 16 + (j 0).val) / 16 % 10 = (j 2).val / 2 := by omega
  simp only [e1, e2, e3, e4]
  rfl

end Cert.KernelIdeal.Value

end
-- ==== Proof.RefArrays.lean ====
/- What the reference starts from: the converted image and weights, and the image with its frame of zeros. -/
module

public import proofs.«01_k».proof.Proof.Gen.ReferenceIdeal.Frame
public import proofs.«01_k».proof.Proof.Spec
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

variable (m : (ℓ : Loc nD τ sig) → Buf (Elt Ideal) ℓ)

/-- The one grid point reads the whole image. -/
theorem index0 : ∀ t : Fin cfg0.N, win0_0.index t = ![0, 0, 0, 0] := (by decide +kernel : ∀ t : Fin grid0.N, _)
/-- The one grid point reads all the weights. -/
theorem index1 : ∀ t : Fin cfg0.N, win0_1.index t = ![0, 0, 0, 0] := (by decide +kernel : ∀ t : Fin grid0.N, _)

/-- The converted image is the image: the conversion is exact here. -/
theorem image_array (c : Dev nD) :
    ((dats m 0 c).arrAt 2 (cfgs 0).N : FVec Ideal S14x6x10x1024 .f32)
      = (m ((c.tc : Thread nD τ).loc main_arg0) : FVec Ideal S14x6x10x1024 .fp8e4m3) := by
  refine (dats m 0 c).arrAt_eq_of_after_last 2 t0_0 (by decide +kernel) _ fun j => ?_
  blk_simp
  rw [after0_2]
  frame_out
  blk_point [iblk, V, index0 t0_0]

/-- The converted weights are the weights: the conversion is exact here. -/
theorem weight_array (c : Dev nD) :
    ((dats m 0 c).arrAt 3 (cfgs 0).N : FVec Ideal S1024x512x4x4 .f32)
      = (m ((c.tc : Thread nD τ).loc main_arg2) : FVec Ideal S1024x512x4x4 .fp8e4m3) := by
  refine (dats m 0 c).arrAt_eq_of_after_last 3 t0_0 (by decide +kernel) _ fun j => ?_
  blk_simp
  rw [after0_3]
  frame_out
  blk_point [iblk, V, index1 t0_0]

/-- The image with its frame of zeros. -/
theorem framed (W : Valuation τ sig (Elt Ideal)) (n : Fin 14) (r : Fin 8) (s : Fin 12) (k : Fin 1024) :
    (StableHlo.after (hostOps1 ++ hostOps1_1) W (Proc.devRef .tc main_v1) : FVec Ideal S14x8x12x1024 .f32) (ix4 n r s k)
      = Deconv.padded (W (Proc.devRef .tc main_v0_0)) n r.val s.val k := by
  simp only [hostOps1, hostOps1_1, List.cons_append, List.nil_append]
  after_reads_at
  unfold Deconv.padded
  by_cases h : (1 ≤ r.val ∧ r.val - 1 < 6) ∧ 1 ≤ s.val ∧ s.val - 1 < 10
  · rw [dif_pos h, dif_pos h]
  · rw [dif_neg h, dif_neg h]
    show (((0#32 : BitVec 32).toInt : ℝ) : EReal) = 0
    simp

end Cert.ReferenceIdeal.Value

end
-- ==== Proof.RefDot.lean ====
/- The reference's contraction over two window axes and the channel, as three nested sums. -/
module

public import proofs.«01_k».proof.Proof.Gen.ReferenceIdeal.Frame
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

/-- The contraction of the reference: images by window and channel against weights by channel and window. -/
abbrev dot := dot_S14x6x10x2x2x1024_S1024x512x2x2_S14x6x10x512_345_230_012_1_n_n

/-- It sums over three axes. -/
theorem dot_rank : dot.contr.rank = 3 := by rw [dot.rank_contr]; rfl

/-- A window row, a window column and a channel as one index of the contraction. -/
def cidx (k : Fin 2 × Fin 2 × Fin 1024) : dot.contr.Idx := fun p =>
  match p with
  | ⟨0, _⟩ => k.1
  | ⟨1, _⟩ => k.2.1
  | ⟨2, _⟩ => k.2.2
  | ⟨p + 3, h⟩ => absurd (dot_rank ▸ h) (by omega)

/-- Every index of the contraction arises so, once. -/
def cequiv : Fin 2 × Fin 2 × Fin 1024 ≃ dot.contr.Idx where
  toFun := cidx
  invFun kk := (kk ⟨0, by rw [dot_rank]; omega⟩, kk ⟨1, by rw [dot_rank]; omega⟩, kk ⟨2, by rw [dot_rank]; omega⟩)
  left_inv _ := rfl
  right_inv kk := by
    funext p
    match p with
    | ⟨0, _⟩ => rfl
    | ⟨1, _⟩ => rfl
    | ⟨2, _⟩ => rfl
    | ⟨p + 3, h⟩ => exact absurd (dot_rank ▸ h) (by omega)

/-- The entry of the images that a term of the contraction reads. -/
theorem lhsIdx_eq (j : S14x6x10x512.Idx) (k : Fin 2 × Fin 2 × Fin 1024) :
    dot.lhsIdx j (cidx k) = ix6 (j 0) (j 1) (j 2) k.1 k.2.1 k.2.2 := by
  funext a
  fin_cases a <;> rfl

/-- The entry of the weights that a term of the contraction reads. -/
theorem rhsIdx_eq (j : S14x6x10x512.Idx) (k : Fin 2 × Fin 2 × Fin 1024) :
    dot.rhsIdx j (cidx k) = ix4 k.2.2 (j 3) k.1 k.2.1 := by
  funext a
  fin_cases a <;> rfl

/-- The contraction at an entry: three nested sums of products. -/
theorem dot_apply (l : FVec Ideal S14x6x10x2x2x1024 .f32) (r : FVec Ideal S1024x512x2x2 .f32) (j : S14x6x10x512.Idx) :
    Ideal.matmul dot l r (fun _ => 0) j
      = ∑ a : Fin 2, ∑ b : Fin 2, ∑ c : Fin 1024, l (ix6 (j 0) (j 1) (j 2) a b c) * r (ix4 c (j 3) a b) := by
  show 0 + ∑ kk : dot.contr.Idx, l (dot.lhsIdx j kk) * r (dot.rhsIdx j kk) = _
  rw [zero_add, ← Fintype.sum_equiv cequiv (fun k => l (dot.lhsIdx j (cidx k)) * r (dot.rhsIdx j (cidx k))) _ fun _ => rfl]
  simp only [Fintype.sum_prod_type, lhsIdx_eq, rhsIdx_eq]
  rfl

end Cert.ReferenceIdeal.Value

end
-- ==== Proof.RefPhases.lean ====
/- The reference's four phases and how its result is put together from them. -/
module

public import proofs.«01_k».proof.Proof.RefDot
public import proofs.«01_k».proof.Proof.Spec
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

/-- A contraction of windows with taps is the phase they belong to. -/
theorem dot_phase (x : FVec Ideal S14x6x10x1024 .f32) (w : FVec Ideal S1024x512x4x4 .f32) (py px : ℕ)
    (l : FVec Ideal S14x6x10x2x2x1024 .f32) (r : FVec Ideal S1024x512x2x2 .f32)
    (hl : ∀ (n : Fin 14) (y : Fin 6) (z : Fin 10) (a b : Fin 2) (k : Fin 1024),
      l (ix6 n y z a b k) = Deconv.padded x n (y.val + py + a.val) (z.val + px + b.val) k)
    (hr : ∀ (k : Fin 1024) (o : Fin 512) (a b : Fin 2), r (ix4 k o a b) = Deconv.tap w py px a.val b.val k o)
    (j : S14x6x10x512.Idx) :
    Host.dotGeneral dot none l r j = Deconv.phase x w py px (j 0) (j 1).val (j 2).val (j 3) := by
  refine (dot_apply l r j).trans ?_
  unfold Deconv.phase
  refine Finset.sum_congr rfl fun a _ => Finset.sum_congr rfl fun b _ => Finset.sum_congr rfl fun k _ => ?_
  exact congrArg₂ (fun u v : EReal => u * v) (hl (j 0) (j 1) (j 2) a b k) (hr k (j 3) a b)

/-- The four phases' contractions, from a framed image and converted weights. -/
theorem phase_dots (W : Valuation τ sig (Elt Ideal)) (x : FVec Ideal S14x6x10x1024 .f32)
    (hx : ∀ (n : Fin 14) (r : Fin 8) (s : Fin 12) (k : Fin 1024),
      (W (Proc.devRef .tc main_v1) : FVec Ideal S14x8x12x1024 .f32) (ix4 n r s k) = Deconv.padded x n r.val s.val k)
    (j : S14x6x10x512.Idx) :
    (StableHlo.after (hostOps1_2.take 32) W (Proc.devRef .tc main_v17) : FVec Ideal S14x6x10x512 .f32) j
        = Deconv.phase x (W (Proc.devRef .tc main_v0_1)) 0 0 (j 0) (j 1).val (j 2).val (j 3)
      ∧ (StableHlo.after (hostOps1_2.take 32) W (Proc.devRef .tc main_v33) : FVec Ideal S14x6x10x512 .f32) j
        = Deconv.phase x (W (Proc.devRef .tc main_v0_1)) 0 1 (j 0) (j 1).val (j 2).val (j 3)
      ∧ (StableHlo.after (hostOps1_2.take 67) W (Proc.devRef .tc main_v52) : FVec Ideal S14x6x10x512 .f32) j
        = Deconv.phase x (W (Proc.devRef .tc main_v0_1)) 1 0 (j 0) (j 1).val (j 2).val (j 3)
      ∧ (StableHlo.after (hostOps1_2.take 67) W (Proc.devRef .tc main_v68) : FVec Ideal S14x6x10x512 .f32) j
        = Deconv.phase x (W (Proc.devRef .tc main_v0_1)) 1 1 (j 0) (j 1).val (j 2).val (j 3) := by
  simp only [List.take_succ_cons, List.take_zero]
  refine ⟨?_, ?_, ?_, ?_⟩
  all_goals
    after_results
    refine dot_phase x _ _ _ _ _ (fun n y z a b k => ?_) (fun k o a b => ?_) j
    · pointwise
      simp only [hx]
      fin_vals a with ha <;> fin_vals b with hb <;> simp only [ha, hb, Nat.reduceLT, ↓reduceDIte] <;>
        exact congrArg₂ (fun r s => Deconv.padded x n r s k) (by omega) (by omega)
    · pointwise
      unfold Deconv.tap
      refine congrArg _ ?_
      fin_cases a <;> fin_cases b <;> funext i <;> fin_cases i <;> rfl

/-- The two phases of even rows, one after the other. -/
theorem even_rows (W : Valuation τ sig (Elt Ideal)) (q : Fin 2) (n : Fin 14) (y : Fin 6) (z : Fin 10) (o : Fin 512) :
    (StableHlo.after ((hostOps1_2.take 67).drop 32) W (Proc.devRef .tc main_v36) : FVec Ideal S2x14x6x10x512 .f32) (ix5 q n y z o)
      = if q.val < 1 then (W (Proc.devRef .tc main_v17) : FVec Ideal S14x6x10x512 .f32) (ix4 n y z o)
        else (W (Proc.devRef .tc main_v33) : FVec Ideal S14x6x10x512 .f32) (ix4 n y z o) := by
  simp only [List.take_succ_cons, List.take_zero, List.drop_succ_cons, List.drop_zero]
  after_results
  pointwise
  rfl

/-- The result's entry, when the three arrays of phases hold `S`: the phase of the entry's parities, scaled and shifted. -/
theorem interleaved (W : Valuation τ sig (Elt Ideal)) (S : ℕ → ℕ → Fin 14 → ℕ → ℕ → Fin 512 → EReal)
    (h36 : ∀ (q : Fin 2) (n : Fin 14) (y : Fin 6) (z : Fin 10) (o : Fin 512),
      (W (Proc.devRef .tc main_v36) : FVec Ideal S2x14x6x10x512 .f32) (ix5 q n y z o) = S 0 q.val n y.val z.val o)
    (h52 : ∀ (n : Fin 14) (y : Fin 6) (z : Fin 10) (o : Fin 512),
      (W (Proc.devRef .tc main_v52) : FVec Ideal S14x6x10x512 .f32) (ix4 n y z o) = S 1 0 n y.val z.val o)
    (h68 : ∀ (n : Fin 14) (y : Fin 6) (z : Fin 10) (o : Fin 512),
      (W (Proc.devRef .tc main_v68) : FVec Ideal S14x6x10x512 .f32) (ix4 n y z o) = S 1 1 n y.val z.val o)
    (n : Fin 14) (r : Fin 12) (t : Fin 20) (o : Fin 512) :
    (StableHlo.after (hostOps1_2.drop 67) W (Proc.devRef .tc main_v85) : FVec Ideal S14x12x20x512 .bf16) (ix4 n r t o)
      = (fun (xs : FVec Ideal S_ .f32) (ws b : FVec Ideal S512 .f32) =>
          S (r.val % 2) (t.val % 2) n (r.val / 2) (t.val / 2) o * (xs ix0 * ws (ix1 o)) + b (ix1 o))
          (W (Proc.devRef .tc main_arg1)) (W (Proc.devRef .tc main_arg3)) (W (Proc.devRef .tc main_arg4)) := by
  simp only [List.drop_succ_cons, List.drop_zero]
  after_results
  pointwise
  simp only [h36, h52, h68]
  by_cases e1 : r.val % 2 < 1
  · rewrite [dif_pos e1, Nat.lt_one_iff.mp e1]
    rfl
  · have f1 : r.val % 2 = 1 := by omega
    rewrite [dif_neg e1, f1]
    by_cases e2 : t.val % 2 < 1
    · rewrite [dif_pos e2, Nat.lt_one_iff.mp e2]
      rfl
    · have f2 : t.val % 2 = 1 := by omega
      rewrite [dif_neg e2, f2]
      rfl

end Cert.ReferenceIdeal.Value

end
-- ==== Proof.RefResult.lean ====
/- The reference's result is the layer of its arguments. -/
module

public import proofs.«01_k».proof.Proof.RefArrays
public import proofs.«01_k».proof.Proof.RefPhases

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

variable (m : (ℓ : Loc nD τ sig) → Buf (Elt Ideal) ℓ)

/-- The scales and biases are left alone by the operations that form the phases. -/
theorem phases_keep (W : Valuation τ sig (Elt Ideal)) :
    StableHlo.after (hostOps1_2.take 67) W (Proc.devRef .tc main_arg1) = W (Proc.devRef .tc main_arg1)
      ∧ StableHlo.after (hostOps1_2.take 67) W (Proc.devRef .tc main_arg3) = W (Proc.devRef .tc main_arg3)
      ∧ StableHlo.after (hostOps1_2.take 67) W (Proc.devRef .tc main_arg4) = W (Proc.devRef .tc main_arg4) := by
  simp only [List.take_succ_cons, List.take_zero]
  refine ⟨?_, ?_, ?_⟩ <;> after_results

/-- The weights, scales and biases are left alone by the operations that frame the image. -/
theorem framed_keep (W : Valuation τ sig (Elt Ideal)) :
    StableHlo.after (hostOps1 ++ hostOps1_1) W (Proc.devRef .tc main_v0_1) = W (Proc.devRef .tc main_v0_1)
      ∧ StableHlo.after (hostOps1 ++ hostOps1_1) W (Proc.devRef .tc main_arg1) = W (Proc.devRef .tc main_arg1)
      ∧ StableHlo.after (hostOps1 ++ hostOps1_1) W (Proc.devRef .tc main_arg3) = W (Proc.devRef .tc main_arg3)
      ∧ StableHlo.after (hostOps1 ++ hostOps1_1) W (Proc.devRef .tc main_arg4) = W (Proc.devRef .tc main_arg4) := by
  simp only [hostOps1, hostOps1_1, List.cons_append, List.nil_append]
  refine ⟨?_, ?_, ?_, ?_⟩ <;> after_results

/-- The two phases of even rows, from a framed image and converted weights. -/
theorem even_phases (W : Valuation τ sig (Elt Ideal)) (x : FVec Ideal S14x6x10x1024 .f32)
    (hx : ∀ (n : Fin 14) (r : Fin 8) (s : Fin 12) (k : Fin 1024),
      (W (Proc.devRef .tc main_v1) : FVec Ideal S14x8x12x1024 .f32) (ix4 n r s k) = Deconv.padded x n r.val s.val k)
    (q : Fin 2) (n : Fin 14) (y : Fin 6) (z : Fin 10) (o : Fin 512) :
    (StableHlo.after (hostOps1_2.take 67) W (Proc.devRef .tc main_v36) : FVec Ideal S2x14x6x10x512 .f32) (ix5 q n y z o)
      = Deconv.phase x (W (Proc.devRef .tc main_v0_1)) 0 q.val n y.val z.val o := by
  rw [← List.take_append_drop 32 ((hostOps1_2 (F := Ideal)).take 67), StableHlo.after_append, even_rows, List.take_take,
    show min 32 67 = 32 from rfl]
  obtain ⟨h0, h1, -⟩ := phase_dots W x hx (ix4 n y z o)
  fin_vals q with hq
  · rw [if_pos (by omega), hq]
    exact h0
  · rw [if_neg (by omega), hq]
    exact h1

/-- The result from any contents of the converted image and weights, the scales and the biases. -/
theorem result_of (W : Valuation τ sig (Elt Ideal)) :
    (StableHlo.after ((hostOps1 ++ hostOps1_1) ++ hostOps1_2) W (Proc.devRef .tc main_v85) : FVec Ideal S14x12x20x512 .bf16)
      = Deconv.layer (W (Proc.devRef .tc main_v0_0)) (W (Proc.devRef .tc main_arg1)) (W (Proc.devRef .tc main_v0_1))
          (W (Proc.devRef .tc main_arg3)) (W (Proc.devRef .tc main_arg4)) := by
  funext j
  have ej : j = ix4 (j 0) (j 1) (j 2) (j 3) := by
    funext a
    fin_cases a <;> rfl
  rw [StableHlo.after_append, ← List.take_append_drop 67 (hostOps1_2 (F := Ideal)), StableHlo.after_append]
  obtain ⟨f0, f1, f3, f4⟩ := framed_keep W
  have hx := framed W
  generalize StableHlo.after (hostOps1 ++ hostOps1_1) W = U at *
  obtain ⟨k1, k3, k4⟩ := phases_keep U
  have p := interleaved (StableHlo.after (hostOps1_2.take 67) U)
    (fun py px n y z o => Deconv.phase (W (Proc.devRef .tc main_v0_0)) (U (Proc.devRef .tc main_v0_1)) py px n y z o)
    (even_phases U _ hx)
    (fun n y z o => (phase_dots U _ hx (ix4 n y z o)).2.2.1)
    (fun n y z o => (phase_dots U _ hx (ix4 n y z o)).2.2.2)
    (j 0) (j 1) (j 2) (j 3)
  rw [k1, k3, k4, f0, f1, f3, f4] at p
  exact (congrArg _ ej).trans p

/-- The reference's result is the layer of the arguments. -/
theorem result (c : Dev nD) :
    (Pipeline.afterTail₀ cfgs (dats m) 0 (V0 m) [hostOps1, hostOps1_1, hostOps1_2] c main_v85 : FVec Ideal S14x12x20x512 .bf16)
      = Deconv.layer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Pipeline.afterTail₀
  have hinj : Function.Injective (Pipeline.arrRef (cfgs 0).spec) := by decide
  have e0 := Pipeline.withArrays_arr (cfgs 0).spec hinj c (V0 m c) (fun w => (dats m 0 c).arrAt w (cfgs 0).N) 2
  have e2 := Pipeline.withArrays_arr (cfgs 0).spec hinj c (V0 m c) (fun w => (dats m 0 c).arrAt w (cfgs 0).N) 3
  have e1 := Pipeline.withArrays_of_ne (cfgs 0).spec c (V0 m c) (fun w => (dats m 0 c).arrAt w (cfgs 0).N) main_arg1
    (by decide)
  have e3 := Pipeline.withArrays_of_ne (cfgs 0).spec c (V0 m c) (fun w => (dats m 0 c).arrAt w (cfgs 0).N) main_arg3
    (by decide)
  have e4 := Pipeline.withArrays_of_ne (cfgs 0).spec c (V0 m c) (fun w => (dats m 0 c).arrAt w (cfgs 0).N) main_arg4
    (by decide)
  rw [image_array] at e0
  rw [weight_array] at e2
  generalize Pipeline.withArrays (cfgs 0).spec c (V0 m c) (fun w => (dats m 0 c).arrAt w (cfgs 0).N) = W at *
  have e0' : W (Proc.devRef .tc main_v0_0) = _ := e0
  have e2' : W (Proc.devRef .tc main_v0_1) = _ := e2
  have p := result_of W
  rw [e0', e1, e2', e3, e4] at p
  simp only [List.flatten_cons, List.flatten_nil, List.append_nil, ← List.append_assoc]
  exact p

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelResult
public import proofs.«01_k».proof.Proof.RefResult
public import Idealize.ShloMosaic.Adequacy
public import Idealize.ShloMosaic.Init

@[expose] public section

noncomputable section

namespace Cert.Proof

open Idealize.ShloMosaic Idealize.SL.Sem Cert.Kernel

/-- The idealized kernel and the idealized reference leave the same result. -/
theorem algebraic : Cert.algebraic_KernelIdeal_ReferenceIdeal := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
    · exact Cert.KernelIdeal.Gen.W_main_arg2 m (Cert.KernelIdeal.Gen.dats m) c
    · exact Cert.KernelIdeal.Gen.W_main_arg3 m (Cert.KernelIdeal.Gen.dats m) c
    · exact Cert.KernelIdeal.Gen.W_main_arg4 m (Cert.KernelIdeal.Gen.dats m) c
  · run_from Cert.ReferenceIdeal.Gen.run_main m' g'
    · obtain ⟨a0, a1, a2, a3, a4⟩ := hagree c
      refine (Cert.ReferenceIdeal.Value.result m' c).trans (Eq.trans ?_ (Cert.KernelIdeal.Value.result m c).symm)
      rw [a0, a1, a2, a3, a4]
    · exact (Cert.ReferenceIdeal.Gen.W_main_arg1 m' (Cert.ReferenceIdeal.Gen.dats m') c).trans (hagree c).2.1
    · exact (Cert.ReferenceIdeal.Gen.W_main_arg3 m' (Cert.ReferenceIdeal.Gen.dats m') c).trans (hagree c).2.2.2.1
    · exact (Cert.ReferenceIdeal.Gen.W_main_arg4 m' (Cert.ReferenceIdeal.Gen.dats m') c).trans (hagree c).2.2.2.2

/-- Everything claimed of the three programs. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
